-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "haar_ll" .f32 0x3EB504F3#32 (((Real.sqrt 8)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32x64x128x128 : Shape := ⟨5, ![2, 32, 64, 128, 128]⟩
abbrev S4096x128x128 : Shape := ⟨3, ![4096, 128, 128]⟩
abbrev S2048x64x64 : Shape := ⟨3, ![2048, 64, 64]⟩
abbrev S64x128x128 : Shape := ⟨3, ![64, 128, 128]⟩
abbrev S64x64x64 : Shape := ⟨3, ![64, 64, 64]⟩
abbrev S32x64x128 : Shape := ⟨3, ![32, 64, 128]⟩
abbrev S128x64 : Shape := ⟨2, ![128, 64]⟩
abbrev S2048x128 : Shape := ⟨2, ![2048, 128]⟩
abbrev S2048x64 : Shape := ⟨2, ![2048, 64]⟩
abbrev S32x64x64 : Shape := ⟨3, ![32, 64, 64]⟩
abbrev S2x32x32x64x64 : Shape := ⟨5, ![2, 32, 32, 64, 64]⟩

abbrev nBuf : Space → Nat
  | .hbm => 4
  | .vmem => 6
  | .smem => 0
  | _ => 0

abbrev bufTy : (tb : Table) → Fin (tcTables nBuf tb) → BufTy
  | .hbm, ⟨0, _⟩ => ⟨S2x32x64x128x128, .f32⟩
  | .hbm, ⟨1, _⟩ => ⟨S4096x128x128, .f32⟩
  | .hbm, ⟨2, _⟩ => ⟨S2048x64x64, .f32⟩
  | .hbm, ⟨3, _⟩ => ⟨S2x32x32x64x64, .f32⟩
  | .local _ .vmem, ⟨0, _⟩ => ⟨S64x128x128, .f32⟩
  | .local _ .vmem, ⟨1, _⟩ => ⟨S64x128x128, .f32⟩
  | .local _ .vmem, ⟨2, _⟩ => ⟨S64x128x128, .f32⟩
  | .local _ .vmem, ⟨3, _⟩ => ⟨S64x128x128, .f32⟩
  | .local _ .vmem, ⟨4, _⟩ => ⟨S64x64x64, .f32⟩
  | .local _ .vmem, ⟨5, _⟩ => ⟨S64x64x64, .f32⟩
  | _, _ => ⟨S2x32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "haar_ll" => some (((Real.sqrt 8)⁻¹ : ℝ) : EReal)
  | _ => none
-- ==== ReferenceIdeal.lean ====
abbrev S2x32x64x128x128 : Shape := ⟨5, ![2, 32, 64, 128, 128]⟩
abbrev S2x32x32x2x64x2x64x2 : Shape := ⟨8, ![2, 32, 32, 2, 64, 2, 64, 2]⟩
abbrev S_ : Shape := ⟨0, ![]⟩
abbrev S2x32x32x64x64 : Shape := ⟨5, ![2, 32, 32, 64, 64]⟩

abbrev nBuf : Space → Nat
  | .hbm => 12
  | .vmem => 0
  | .smem => 0
  | _ => 0

abbrev bufTy : (tb : Table) → Fin (tcTables nBuf tb) → BufTy
  | .hbm, ⟨0, _⟩ => ⟨S2x32x64x128x128, .f32⟩
  | .hbm, ⟨1, _⟩ => ⟨S2x32x32x2x64x2x64x2, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x32x32x64x64, .f32⟩
  | .hbm, ⟨10, _⟩ => ⟨S2x32x32x64x64, .f32⟩
  | .hbm, ⟨11, _⟩ => ⟨S2x32x32x64x64, .f32⟩
  | _, _ => ⟨S2x32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Spec.lean ====
/- The function both programs are shown to compute, in two layouts.
   `haar` is the low-pass output of the three-dimensional Haar transform on the array as it is given (five axes): each
   result is the sum of one 2×2×2 cell of the last three axes, times `(√8)⁻¹`. `haarFlat` is the same function on the
   array with its three leading axes flattened to one, the layout the kernel's pipeline works in. `haar_eq_flat` says
   that flattening, taking `haarFlat` and unflattening is `haar`. -/
module

public import Idealize.ShloMosaic.Lib.ValueIdx
public import Idealize.ShloMosaic.Lib.Pipeline.Value
public import Idealize.ShloMosaic.Lib.Pointwise.Reshape

@[expose] public section

noncomputable section

namespace Cert.Haar

open Idealize.ShloMosaic

/-- The argument array's shape: batch, channel, depth, height, width. -/
abbrev SIn : Shape := ⟨5, ![2, 32, 64, 128, 128]⟩
/-- The result's shape: depth, height and width halved. -/
abbrev SOut : Shape := ⟨5, ![2, 32, 32, 64, 64]⟩
/-- The argument's shape with batch, channel and depth flattened. -/
abbrev SInFlat : Shape := ⟨3, ![4096, 128, 128]⟩
/-- The result's shape with batch, channel and depth flattened. -/
abbrev SOutFlat : Shape := ⟨3, ![2048, 64, 64]⟩

/-- The scale of the low-pass output: one over the root of eight. -/
def scale : EReal := (((Real.sqrt 8)⁻¹ : ℝ) : EReal)

/-- Twice a coordinate plus an offset within its pair: the coordinate along the axis of twice the length. -/
def pair {n : Nat} (k : Fin n) (e : Fin 2) : Fin (2 * n) := ⟨2 * k.val + e.val, by omega⟩

/-- The value of `pair k e` is `2k + e`. -/
theorem pair_val {n : Nat} (k : Fin n) (e : Fin 2) : (pair k e).val = 2 * k.val + e.val := rfl

/-- The element of the argument at offsets `e f g` within the 2×2×2 cell of the result index `j`. -/
def cell (j : SOut.Idx) (e f g : Fin 2) : SIn.Idx := ValueIdx.ix5 (j 0) (j 1) (pair (j 2) e) (pair (j 3) f) (pair (j 4) g)

/-- The same in the flattened layout. -/
def cellFlat (j : SOutFlat.Idx) (e f g : Fin 2) : SInFlat.Idx := ValueIdx.ix3 (pair (j 0) e) (pair (j 1) f) (pair (j 2) g)

/-- The low-pass output at `j`: the sum of the eight elements of `j`'s cell, times the scale. -/
def haar (x : SIn.Idx → EReal) : SOut.Idx → EReal := fun j => (∑ e, ∑ f, ∑ g, x (cell j e f g)) * scale

/-- The same in the flattened layout. -/
def haarFlat (x : SInFlat.Idx → EReal) : SOutFlat.Idx → EReal := fun j => (∑ e, ∑ f, ∑ g, x (cellFlat j e f g)) * scale

/-- The shape of one argument block of the kernel: 64 consecutive rows of the flattened argument. -/
abbrev SBlk : Shape := ⟨3, ![64, 128, 128]⟩
/-- The shape of the results one such block gives: 32 consecutive rows of the flattened result. -/
abbrev SHalf : Shape := ⟨3, ![32, 64, 64]⟩

/-- The element at offsets `e f g` within the cell of the result index `j`, inside one block. -/
def cellBlk (j : SHalf.Idx) (e f g : Fin 2) : SBlk.Idx := ValueIdx.ix3 (pair (j 0) e) (pair (j 1) f) (pair (j 2) g)

/-- The low-pass output of one block. -/
def haarBlk (x : SBlk.Idx → EReal) : SHalf.Idx → EReal := fun j => (∑ e, ∑ f, ∑ g, x (cellBlk j e f g)) * scale

/-- The flattened index of the result index `j`. -/
def flat (j : SOut.Idx) : SOutFlat.Idx :=
  ValueIdx.ix3 (n0 := 2048) (n1 := 64) (n2 := 64) ⟨(((j 0).val * 32 + (j 1).val) * 32 + (j 2).val), by
    have h0 : (j 0).val < 2 := (j 0).isLt
    have h1 : (j 1).val < 32 := (j 1).isLt
    have h2 : (j 2).val < 32 := (j 2).isLt
    omega⟩ (j 3) (j 4)

/-- A result index and its flattened index are at the same row-major position. -/
theorem flat_rowMajor (j : SOut.Idx) : (SOutFlat.rowMajor (flat j)).val = (SOut.rowMajor j).val := by
  rw [rowMajor_val3 (flat j) 4096 64 rfl rfl, rowMajor_val5 j 4194304 131072 4096 64 rfl rfl rfl rfl]
  have e0 : (flat j 0).val = ((j 0).val * 32 + (j 1).val) * 32 + (j 2).val := rfl
  have e1 : (flat j 1).val = (j 3).val := rfl
  have e2 : (flat j 2).val = (j 4).val := rfl
  omega

/-- The cell of a flattened index is, position by position, the cell of the index itself: depth is the last of the
    three flattened axes and its length is even, so a pair of depths is a pair of flattened rows. -/
theorem cell_rowMajor (j : SOut.Idx) (e f g : Fin 2) :
    (SIn.rowMajor (cell j e f g)).val = (SInFlat.rowMajor (cellFlat (flat j) e f g)).val := by
  rw [rowMajor_val3 (cellFlat (flat j) e f g) 16384 128 rfl rfl,
    rowMajor_val5 (cell j e f g) 33554432 1048576 16384 128 rfl rfl rfl rfl]
  have e0 : (flat j 0).val = ((j 0).val * 32 + (j 1).val) * 32 + (j 2).val := rfl
  have c0 : (cell j e f g 0).val = (j 0).val := rfl
  have c1 : (cell j e f g 1).val = (j 1).val := rfl
  have c2 : (cell j e f g 2).val = 2 * (j 2).val + e.val := rfl
  have c3 : (cell j e f g 3).val = 2 * (j 3).val + f.val := rfl
  have c4 : (cell j e f g 4).val = 2 * (j 4).val + g.val := rfl
  have d0 : (cellFlat (flat j) e f g 0).val = 2 * (flat j 0).val + e.val := rfl
  have d1 : (cellFlat (flat j) e f g 1).val = 2 * (j 3).val + f.val := rfl
  have d2 : (cellFlat (flat j) e f g 2).val = 2 * (j 4).val + g.val := rfl
  omega

/-- Flattening the argument, taking the low-pass output there and unflattening the result is the low-pass output. -/
theorem haar_eq_flat (x : SIn.Idx → EReal) (hi : SIn.ShapeCasts SInFlat) (ho : SOutFlat.ShapeCasts SOut) :
    shapeCast SOut (haarFlat (shapeCast SInFlat x hi)) ho = haar x := by
  funext j
  rw [shapeCast_apply _ ho j (flat j) (flat_rowMajor j)]
  show (∑ e, ∑ f, ∑ g, shapeCast SInFlat x hi (cellFlat (flat j) e f g)) * scale = _
  simp only [shapeCast_apply x hi _ _ (cell_rowMajor j _ _ _)]
  rfl

end Cert.Haar

end
-- ==== Proof.Block.lean ====
/- What one of the kernel's blocks computes, at the ideal values. The kernel loads the four (row, height) parities of a
   block, adds them, and multiplies the sum by a 0/1 matrix that adds neighbouring columns; then it scales. Here: the
   matrix's entries (`select_apply`), the product by it as a two-term sum (`sum_select`), and the stored payload as
   `Cert.Haar.haarBlk` of the block (`pay_eq`). -/
module

public import proofs.«01_k».proof.Proof.Spec
public import proofs.«01_k».proof.Proof.Gen.KernelIdeal.Skeleton
public import Idealize.ShloMosaic.Lib.Pointwise.Contract
public import Idealize.ShloMosaic.Lib.Pointwise.Reduce
public import Idealize.ShloMosaic.PureOps.IdealRules
public import Idealize.ShloMosaic.Lib.Pipeline.FrameBody

@[expose] public section

noncomputable section

namespace Cert.Haar.Block

open Idealize.ShloMosaic Cert.KernelIdeal Cert.KernelIdeal.Gen

/-- The row numbers of the selection matrix. -/
abbrev rows : IVec S128x64 32 := iota .tc S128x64 32 [0] iota_S128x64_d0_w32
/-- The column numbers of the selection matrix. -/
abbrev cols : IVec S128x64 32 := iota .tc S128x64 32 [1] iota_S128x64_d1_w32

/-- The 0/1 selection matrix the kernel builds. -/
abbrev select : FVec Ideal S128x64 .f32 := k0_pay1 rows cols 2#32 k0_pay6 k0_pay7 k0_pay8

/-- The word the kernel compares with the column number on the row numbered `w`: half of `w` rounded down, by the
    integer operations it uses (a truncated quotient, corrected where the signs differ and there is a remainder). -/
def halfWord (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 2#32 0#32)) (Scalar.extui (Scalar.cmpi .slt 2#32 0#32))))
      (IntOp.cmpi .ne (IntOp.remsi .vector w 2#32) 0#32))
    (IntOp.subi (IntOp.divsi .vector w 2#32) 1#32) (IntOp.divsi .vector w 2#32)

/-- On every row of the matrix that word is half of the row number. -/
theorem halfWord_eq : ∀ r : Fin 128, halfWord (BitVec.ofNat 32 r.val) = BitVec.ofNat 32 (r.val / 2) := by decide +kernel

/-- Comparing it with a column number: one where the column is half of the row, zero elsewhere. -/
theorem compare_eq : ∀ (r : Fin 128) (c : Fin 64),
    ((IntOp.cmpi .eq (BitVec.ofNat 32 (r.val / 2)) (BitVec.ofNat 32 c.val)).setWidth 32).toInt
      = if r.val / 2 = c.val then 1 else 0 := by decide +kernel

/-- An entry of the selection matrix: one where the column is half of the row, zero elsewhere. -/
theorem select_apply (r : Fin 128) (c : Fin 64) :
    select (ValueIdx.ix2 r c) = if r.val / 2 = c.val then 1 else 0 := by
  have h : select (ValueIdx.ix2 r c)
      = ((((IntOp.cmpi .eq (halfWord (rows (ValueIdx.ix2 r c))) (cols (ValueIdx.ix2 r c))).setWidth 32).toInt : ℝ)
          : EReal) := rfl
  have hr : rows (ValueIdx.ix2 r c) = BitVec.ofNat 32 r.val := iota_single_apply ..
  have hc : cols (ValueIdx.ix2 r c) = BitVec.ofNat 32 c.val := iota_single_apply ..
  rw [h, hr, hc, halfWord_eq, compare_eq]
  split <;> simp

/-- A row times the selection matrix's column `c`: the row's two entries in the pair of columns `c`. -/
theorem sum_select (v : Fin 128 → EReal) (c : Fin 64) :
    ∑ k, v k * select (ValueIdx.ix2 k c) = ∑ g, v (pair c g) := by
  have hp : ∀ k : Fin 128, k.val / 2 = c.val ↔ ∃ g : Fin 2, pair c g = k := fun k => by
    constructor
    · intro h
      exact ⟨⟨k.val % 2, Nat.mod_lt _ (by norm_num)⟩, Fin.ext (by rw [pair_val]; simp only; omega)⟩
    · rintro ⟨g, rfl⟩
      rw [pair_val]; omega
  have inj : Function.Injective (fun g : Fin 2 => (pair c g : Fin 128)) := fun a b h => by
    have := congrArg Fin.val h
    simp only [pair_val] at this
    exact Fin.ext (by omega)
  simp only [select_apply, mul_ite, mul_one, mul_zero]
  rw [← Finset.sum_filter, Finset.sum_filter_eq_sum_of_fiber _ (fun g : Fin 2 => (pair c g : Fin 128)) inj hp v]

/-- The kernel's named constant denotes the scale. -/
theorem named_scale : Named.named (F := Ideal) κ "haar_ll" (φ := .f32) 0x3EB504F3#32 = scale :=
  IdealRules.named_const.ideal_named_scalar _ _ _ _ rfl

/-- The row of the flattened matrix operand that holds row `a`, height `b` of a half block. -/
def row (a : Fin 32) (b : Fin 64) : Fin 2048 := ⟨a.val * 64 + b.val, by omega⟩

/-- The matrix product at a row and a column: the sum over the row's entries. -/
theorem product_apply (y : FVec Ideal S2048x128 .f32) (p : FVec Ideal S128x64 .f32) (z : FVec Ideal S2048x64 .f32)
    (r : Fin 2048) (c : Fin 64) :
    matmul dot_S2048x128_S128x64_S2048x64_1_0_0_1_n_n none y p z (ValueIdx.ix2 r c)
      = z (ValueIdx.ix2 r c) + ∑ k, y (ValueIdx.ix2 r k) * p (ValueIdx.ix2 k c) :=
  Ideal.matmul_apply₁_of (a := (1 : Fin 2)) (K := 128) dot_S2048x128_S128x64_S2048x64_1_0_0_1_n_n rfl rfl y p z
    (ValueIdx.ix2 r c) (fun k => ValueIdx.ix2 r k) (fun k => ValueIdx.ix2 k c)
    (fun k => by funext a; match a with
      | ⟨0, _⟩ => rfl
      | ⟨1, _⟩ => rfl)
    (fun k => by funext a; match a with
      | ⟨0, _⟩ => rfl
      | ⟨1, _⟩ => rfl)

/-- What the kernel stores of the column sums of `v`: at each index, the two neighbouring columns of `v` added, times
    the scale. -/
theorem pay2_apply (v : FVec Ideal S32x64x128 .f32) (a : Fin 32) (b c : Fin 64) :
    k0_pay2 v rows cols 2#32 k0_pay6 k0_pay7 k0_pay8 (ValueIdx.ix3 a b c)
      = (∑ g, v (ValueIdx.ix3 a b (pair c g))) * scale := by
  unfold k0_pay2
  have hj : (S2048x64.rowMajor (ValueIdx.ix2 (row a b) c)).val = (S32x64x64.rowMajor (ValueIdx.ix3 a b c)).val := by
    rw [rowMajor_val3 (ValueIdx.ix3 a b c) 4096 64 rfl rfl, rowMajor_val2 (ValueIdx.ix2 (row a b) c) 64 rfl]
    have e0 : (ValueIdx.ix2 (row a b) c 0).val = a.val * 64 + b.val := rfl
    have e1 : (ValueIdx.ix2 (row a b) c 1).val = c.val := rfl
    have f0 : (ValueIdx.ix3 a b c 0).val = a.val := rfl
    have f1 : (ValueIdx.ix3 a b c 1).val = b.val := rfl
    have f2 : (ValueIdx.ix3 a b c 2).val = c.val := rfl
    omega
  have hv (k : Fin 128) : (S32x64x128.rowMajor (ValueIdx.ix3 a b k)).val
      = (S2048x128.rowMajor (ValueIdx.ix2 (row a b) k)).val := by
    rw [rowMajor_val3 (ValueIdx.ix3 a b k) 8192 128 rfl rfl, rowMajor_val2 (ValueIdx.ix2 (row a b) k) 128 rfl]
    have e0 : (ValueIdx.ix2 (row a b) k 0).val = a.val * 64 + b.val := rfl
    have e1 : (ValueIdx.ix2 (row a b) k 1).val = k.val := rfl
    have f0 : (ValueIdx.ix3 a b k 0).val = a.val := rfl
    have f1 : (ValueIdx.ix3 a b k 1).val = b.val := rfl
    have f2 : (ValueIdx.ix3 a b k 2).val = k.val := rfl
    omega
  rw [shapeCast_apply _ shapeCasts_S2048x64_S32x64x64 (ValueIdx.ix3 a b c) (ValueIdx.ix2 (row a b) c) hj,
    ValueIdx.mulf_apply, product_apply, ValueIdx.constant_apply, Ideal.ofBits_zero_f32, zero_add]
  simp only [shapeCast_apply v shapeCasts_S32x64x128_S2048x128 _ _ (hv _)]
  rw [sum_select (fun k => v (ValueIdx.ix3 a b k)) c]
  exact congrArg _ named_scale

/-- The second store's payload is the first's function. -/
theorem pay3_eq_pay2 (v : FVec Ideal S32x64x128 .f32) :
    k0_pay3 v rows cols 2#32 k0_pay6 k0_pay7 k0_pay8 = k0_pay2 v rows cols 2#32 k0_pay6 k0_pay7 k0_pay8 := rfl

/-- The second block's sum of four loads is the first's function. -/
theorem pay5_eq_pay4 (a b c d : Vec Ideal S32x64x128 .f32) : k0_pay5 a b c d = k0_pay4 a b c d := rfl

/-- The sum of the four loads at an index. -/
theorem pay4_apply (a b c d : Vec Ideal S32x64x128 .f32) (i : S32x64x128.Idx) :
    k0_pay4 a b c d i = a i + b i + c i + d i := by
  unfold k0_pay4
  simp only [shapeCast_self]
  rfl

/-- The load of the (row, height) parity `e f` of a block: every second row from `e`, every second height from `f`. -/
abbrev parity (e f : Fin 2) : LoadRect S64x128x128 :=
  ⟨![e.val, f.val, 0], S32x64x128.size, ![2, 2, 1], by
    intro a
    match a with
    | ⟨0, _⟩ => exact .inr (show e.val + 2 * 31 < 64 by omega)
    | ⟨1, _⟩ => exact .inr (show f.val + 2 * 63 < 128 by omega)
    | ⟨2, _⟩ => exact .inr (show 0 + 1 * 127 < 128 by omega)⟩

/-- What the load of the parity `e f` reads at row `a`, height `b` and offset `g` of the column pair `c` is the block's
    element at offsets `e f g` of the cell of `a b c`. -/
theorem parity_idx (a : Fin 32) (b c : Fin 64) (e f g : Fin 2) :
    (parity e f).idx (ValueIdx.ix3 a b (pair c g)) = cellBlk (ValueIdx.ix3 a b c) e f g := by
  funext i
  apply Fin.ext
  rw [LoadRect.idx_apply]
  match i with
  | ⟨0, _⟩ => show e.val + 2 * a.val = 2 * a.val + e.val; omega
  | ⟨1, _⟩ => show f.val + 2 * b.val = 2 * b.val + f.val; omega
  | ⟨2, _⟩ => show 0 + 1 * (2 * c.val + g.val) = 2 * c.val + g.val; omega

/-- The payload stored for a block `x`, from its four parities, is the low-pass output of the block. -/
theorem pay_eq (x : Vec Ideal S64x128x128 .f32) :
    k0_pay2 (k0_pay4 (fun i => x ((parity 0 0).idx i)) (fun i => x ((parity 0 1).idx i))
      (fun i => x ((parity 1 0).idx i)) (fun i => x ((parity 1 1).idx i))) rows cols 2#32 k0_pay6 k0_pay7 k0_pay8
      = haarBlk x := by
  funext j
  obtain ⟨a, b, c, rfl⟩ : ∃ (a : Fin 32) (b c : Fin 64), j = ValueIdx.ix3 a b c := ⟨j 0, j 1, j 2, ValueIdx.eq_ix3 j⟩
  rw [pay2_apply]
  simp only [pay4_apply, parity_idx]
  refine congrArg (· * scale) ?_
  simp only [Fin.sum_univ_two]
  abel

end Cert.Haar.Block

end
-- ==== Proof.Array.lean ====
/- What the kernel's arrays end holding, at the ideal values. Each grid point reads two consecutive 64-row blocks of the
   flattened argument and stores their low-pass outputs into the two 32-row halves of one 64-row block of the flattened
   result (`out_eq`, `flushed_eq`); the 32 result blocks cover the result array, which therefore ends at
   `Cert.Haar.haarFlat` of the flattened argument (`final`). Read back through the reshapes before and after the grid,
   the program's result is `Cert.Haar.haar` of its argument (`run`). -/
module

public import proofs.«01_k».proof.Proof.Block
public import proofs.«01_k».proof.Proof.Gen.KernelIdeal.Frame

@[expose] public section

noncomputable section

namespace Cert.Haar.Array

open Idealize.ShloMosaic Idealize.ShloMosaic.TcCoe Idealize.ShloMosaic.Tactic
open Cert.KernelIdeal Cert.KernelIdeal.Gen Cert.Haar.Block Idealize.SL.Sem
open Idealize.ShloMosaic.Pipeline (Dat)

variable (m : (ℓ : Loc nD τ sig) → Buf (Elt Ideal) ℓ) (ρ : Dev nD → PrngReg)

/-- A load from a whole staging buffer that holds `x` reads `x` at the indices the load names. -/
theorem load_eq (a : Memref sig .tc .vmem S64x128x128 .f32) (h : a.IsWhole) (x : Vec Ideal S64x128x128 .f32)
    (r : LoadRect S64x128x128) : a.view.readAt (Elt Ideal) r (h.unread x) = fun i => x (r.idx i) :=
  funext fun i => congrFun (h.read_unread x) (r.idx i)

/-- If `G` restricted to its first 32 rows is the low-pass output of the block `x`, and to its last 32 that of the block
    `y`, the body run on `x` and `y` leaves `G` in the result's staging buffer. -/
theorem out_eq (c : Dev nD) (i : grid0.Coords) (a1 : Memref sig .tc .vmem S64x128x128 .f32) (h1 : a1.IsWhole)
    (a2 : Memref sig .tc .vmem S64x128x128 .f32) (h2 : a2.IsWhole) (a3 : Memref sig .tc .vmem S64x64x64 .f32)
    (h3 : a3.IsWhole) (x y : Vec Ideal S64x128x128 .f32) (G : S64x64x64.Idx → EReal)
    (hx : ∀ j, haarBlk x j = G ((Rect.unit (s := S64x64x64) ![0, 0, 0] S32x64x64.size inb_S64x64x64_S32x64x64_0_0_0).emb j))
    (hy : ∀ j, haarBlk y j = G ((Rect.unit (s := S64x64x64) ![32, 0, 0] S32x64x64.size inb_S64x64x64_S32x64x64_32_0_0).emb j)) :
    out0_A_2 (F := Ideal) c i a1 h1 a2 h2 a3 h3 x y = G := by
  unfold out0_A_2
  rw [View.read_writes_eq_canon _ _ _ (cover0_A_2 c i a1 h1 a2 h2 a3 h3 x y)]
  funext k
  refine View.canon_apply_of_pieces G _ ?_ k (cover0_A_2 c i a1 h1 a2 h2 a3 h3 x y k)
  unfold kernelRun0_A
  dsimp only
  sl_unfold_words
  intro p hp
  rcases List.mem_cons.mp hp with rfl | hp
  · intro j
    refine Eq.trans ?_ (hy j)
    refine Eq.trans (congrFun (pay3_eq_pay2 _) j) ?_
    rw [pay5_eq_pay4]
    simp only [load_eq]
    exact congrFun (pay_eq y) j
  · obtain rfl := List.mem_singleton.mp hp
    intro j
    refine Eq.trans ?_ (hx j)
    simp only [load_eq]
    exact congrFun (pay_eq x) j

/-- At point `t` the first argument window is at block `2t`, the second at block `2t + 1`, the result's at block `t`. -/
theorem index_eq : ∀ t : Fin cfg0.N, (win0_0.index t 0 = 2 * t.val ∧ win0_0.index t 1 = 0 ∧ win0_0.index t 2 = 0)
    ∧ (win0_1.index t 0 = 2 * t.val + 1 ∧ win0_1.index t 1 = 0 ∧ win0_1.index t 2 = 0)
    ∧ (win0_2.index t 0 = t.val ∧ win0_2.index t 1 = 0 ∧ win0_2.index t 2 = 0) := by
  decide +kernel

/-- The flattened argument as the grid finds it. -/
abbrev arg (c : Dev nD) : SInFlat.Idx → EReal := V m c main_v0

/-- The first block of point `t`: rows `128 t` to `128 t + 63` of the flattened argument. -/
theorem iblk0_apply (c : Dev nD) (t : Fin cfg0.N) (a : Fin 64) (b d : Fin 128) (n : Fin 4096) (hn : n.val = 128 * t.val + a.val) :
    (iblk m c 0 t : S64x128x128.Idx → EReal) (ValueIdx.ix3 a b d) = arg m c (ValueIdx.ix3 n b d) := by
  obtain ⟨⟨i0, i1, i2⟩, -, -⟩ := index_eq t
  unfold iblk
  rw [View.read_apply]
  refine congrArg (V m c main_v0) (funext fun k => Fin.ext ?_)
  match k with
  | ⟨0, _⟩ => show win0_0.index t 0 * 64 + 1 * a.val = n.val; rw [i0]; omega
  | ⟨1, _⟩ => show win0_0.index t 1 * 128 + 1 * b.val = b.val; rw [i1]; omega
  | ⟨2, _⟩ => show win0_0.index t 2 * 128 + 1 * d.val = d.val; rw [i2]; omega

/-- The second block of point `t`: rows `128 t + 64` to `128 t + 127` of the flattened argument. -/
theorem iblk1_apply (c : Dev nD) (t : Fin cfg0.N) (a : Fin 64) (b d : Fin 128) (n : Fin 4096)
    (hn : n.val = 128 * t.val + 64 + a.val) :
    (iblk m c 1 t : S64x128x128.Idx → EReal) (ValueIdx.ix3 a b d) = arg m c (ValueIdx.ix3 n b d) := by
  obtain ⟨-, ⟨i0, i1, i2⟩, -⟩ := index_eq t
  unfold iblk
  rw [View.read_apply]
  refine congrArg (V m c main_v0) (funext fun k => Fin.ext ?_)
  match k with
  | ⟨0, _⟩ => show win0_1.index t 0 * 64 + 1 * a.val = n.val; rw [i0]; omega
  | ⟨1, _⟩ => show win0_1.index t 1 * 128 + 1 * b.val = b.val; rw [i1]; omega
  | ⟨2, _⟩ => show win0_1.index t 2 * 128 + 1 * d.val = d.val; rw [i2]; omega

/-- Block `t` of a flattened result array `G`, at row `a`: row `64 t + a` of `G`. -/
theorem oblk_apply (G : SOutFlat.Idx → EReal) (t : Fin cfg0.N) (a b d : Fin 64) (n : Fin 2048) (hn : n.val = 64 * t.val + a.val) :
    (((cfg0.win 2).blk t).view.read (Elt Ideal) G : S64x64x64.Idx → EReal) (ValueIdx.ix3 a b d) = G (ValueIdx.ix3 n b d) := by
  obtain ⟨-, -, ⟨i0, i1, i2⟩⟩ := index_eq t
  rw [View.read_apply]
  refine congrArg G (funext fun k => Fin.ext ?_)
  match k with
  | ⟨0, _⟩ => show win0_2.index t 0 * 64 + 1 * a.val = n.val; rw [i0]; omega
  | ⟨1, _⟩ => show win0_2.index t 1 * 64 + 1 * b.val = b.val; rw [i1]; omega
  | ⟨2, _⟩ => show win0_2.index t 2 * 64 + 1 * d.val = d.val; rw [i2]; omega

/-- The body at point `t` leaves block `t` of the flattened low-pass output in the result's staging buffer. -/
theorem outsAt_eq (c : Dev nD) (t : Fin cfg0.N) :
    outsAt0 m c t = ((cfg0.win 2).blk t).view.read (Elt Ideal) (haarFlat (arg m c)) := by
  have ht : t.val < 32 := lt_of_lt_of_eq t.isLt N_0
  unfold outsAt0
  refine out_eq c _ _ _ _ _ _ _ _ _ _ (fun j => ?_) (fun j => ?_)
  · obtain ⟨a, b, d, rfl⟩ : ∃ (a : Fin 32) (b d : Fin 64), j = ValueIdx.ix3 a b d := ⟨j 0, j 1, j 2, ValueIdx.eq_ix3 j⟩
    have hj : (Rect.unit (s := S64x64x64) ![0, 0, 0] S32x64x64.size inb_S64x64x64_S32x64x64_0_0_0).emb (ValueIdx.ix3 a b d)
        = ValueIdx.ix3 (⟨a.val, by omega⟩ : Fin 64) b d := funext fun k => Fin.ext (by
      rw [Rect.emb_apply]
      match k with
      | ⟨0, _⟩ => show 0 + 1 * a.val = a.val; omega
      | ⟨1, _⟩ => show 0 + 1 * b.val = b.val; omega
      | ⟨2, _⟩ => show 0 + 1 * d.val = d.val; omega)
    rw [hj, oblk_apply _ t _ b d ⟨64 * t.val + a.val, by omega⟩ rfl]
    refine congrArg (· * scale) (Finset.sum_congr rfl fun e _ => Finset.sum_congr rfl fun f _ => Finset.sum_congr rfl fun g _ => ?_)
    exact iblk0_apply m c t (pair a e) (pair b f) (pair d g) (pair (⟨64 * t.val + a.val, by omega⟩ : Fin 2048) e)
      (by simp only [pair_val]; omega)
  · obtain ⟨a, b, d, rfl⟩ : ∃ (a : Fin 32) (b d : Fin 64), j = ValueIdx.ix3 a b d := ⟨j 0, j 1, j 2, ValueIdx.eq_ix3 j⟩
    have hj : (Rect.unit (s := S64x64x64) ![32, 0, 0] S32x64x64.size inb_S64x64x64_S32x64x64_32_0_0).emb (ValueIdx.ix3 a b d)
        = ValueIdx.ix3 (⟨32 + a.val, by omega⟩ : Fin 64) b d := funext fun k => Fin.ext (by
      rw [Rect.emb_apply]
      match k with
      | ⟨0, _⟩ => show 32 + 1 * a.val = 32 + a.val; omega
      | ⟨1, _⟩ => show 0 + 1 * b.val = b.val; omega
      | ⟨2, _⟩ => show 0 + 1 * d.val = d.val; omega)
    rw [hj, oblk_apply _ t _ b d ⟨64 * t.val + (32 + a.val), by omega⟩ rfl]
    refine congrArg (· * scale) (Finset.sum_congr rfl fun e _ => Finset.sum_congr rfl fun f _ => Finset.sum_congr rfl fun g _ => ?_)
    exact iblk1_apply m c t (pair a e) (pair b f) (pair d g) (pair (⟨64 * t.val + (32 + a.val), by omega⟩ : Fin 2048) e)
      (by simp only [pair_val]; omega)

/-- What point `t` writes back is block `t` of the flattened low-pass output. -/
theorem flushed_eq (c : Dev nD) (t : Fin cfg0.N) (_ : (cfg0.win 2).flush t = true) :
    (dats m 0 c).flushed 2 t = ((cfg0.win 2).blk t).view.read (Elt Ideal) (haarFlat (arg m c)) := by
  show (cfg0.win 2).cut (grid0.coords t) ((dats m 0 c).after 2 t) = _
  rw [after0_2, outsAt_eq]

/-- The point whose result block holds row `n`. -/
def point (n : Nat) (h : n < 2048) : Fin cfg0.N := ⟨n / 64, by have : cfg0.N = 32 := N_0; omega⟩

/-- After the whole grid the result array holds the flattened low-pass output: row `n` is in block `n / 64`. -/
theorem final (c : Dev nD) : (dats m 0 c).arrAt 2 cfg0.N = haarFlat (arg m c) :=
  (dats m 0 c).arrAt_eq_of_cover 2 (haarFlat (arg m c)) (flushed_eq m c) fun i => by
    have b0 : (i 0 : Nat) < 2048 := (i 0).isLt
    have b1 : (i 1 : Nat) < 64 := (i 1).isLt
    have b2 : (i 2 : Nat) < 64 := (i 2).isLt
    refine ⟨point (i 0) b0, flush0_2 _, ?_⟩
    obtain ⟨-, -, ⟨i0, i1, i2⟩⟩ := index_eq (point (i 0) b0)
    have hp : (point (i 0) b0).val = (i 0 : Nat) / 64 := rfl
    show i ∈ ((View.whole main_v1).slice (win0_2.rect (point (i 0) b0))).set
    rw [View.set_slice_whole, Rect.mem_set_unit]
    intro a
    match a with
    | ⟨0, _⟩ =>
      show win0_2.index (point (i 0) b0) 0 * 64 ≤ (i 0 : Nat) ∧ (i 0 : Nat) < win0_2.index (point (i 0) b0) 0 * 64 + 64
      rw [i0, hp]; omega
    | ⟨1, _⟩ =>
      show win0_2.index (point (i 0) b0) 1 * 64 ≤ (i 1 : Nat) ∧ (i 1 : Nat) < win0_2.index (point (i 0) b0) 1 * 64 + 64
      rw [i1]; omega
    | ⟨2, _⟩ =>
      show win0_2.index (point (i 0) b0) 2 * 64 ≤ (i 2 : Nat) ∧ (i 2 : Nat) < win0_2.index (point (i 0) b0) 2 * 64 + 64
      rw [i2]; omega

/-- The flattened argument is the argument reshaped. -/
theorem arg_eq (c : Dev nD) : arg m c
    = shapeCast S4096x128x128 (m ((c : Thread nD τ).loc main_arg0)) shapeCasts_S2x32x64x128x128_S4096x128x128 := by
  show StableHlo.after (List.flatten [hostOps0]) (fun b => m (c, b)) (Proc.devRef .tc main_v0) = _
  simp only [List.flatten_cons, List.flatten_nil, List.append_nil]
  after_results
  rfl

/-- The operation after the grid: from any contents, it leaves the result array's reshape. -/
theorem tail_eq (W : Valuation τ sig (Elt Ideal)) :
    StableHlo.after (List.flatten [hostOps1]) W (Proc.devRef .tc main_v2)
      = shapeCast S2x32x32x64x64 (W (Proc.devRef .tc main_v1)) shapeCasts_S2048x64x64_S2x32x32x64x64 := by
  simp only [List.flatten_cons, List.flatten_nil, List.append_nil]
  after_results
  rfl

/-- The program's result is the result array reshaped. -/
theorem result_eq (c : Dev nD) : Pipeline.afterTail₀ cfgs (dats m) 0 (V0 m) [hostOps1] c main_v2
    = shapeCast S2x32x32x64x64 (haarFlat (arg m c)) shapeCasts_S2048x64x64_S2x32x32x64x64 := by
  unfold Pipeline.afterTail₀
  rw [tail_eq]
  have h := (dats m 0 c).withArrays_arrAt launch₀0.sharedIn (V0 m c) (A_eq m c) 2
  rw [final] at h
  exact congrArg (fun z => shapeCast S2x32x32x64x64 z shapeCasts_S2048x64x64_S2x32x32x64x64) h

/-- The kernel's run: from any memory every execution ends with the result at the low-pass output of the argument, and
    the argument unchanged. -/
theorem run : θ_run defs (onTc (τ := τ) (main (F := Ideal))) ⟨m, fun _ => 0, ρ⟩ fun r => ∀ c : Dev nD,
      r.2.mem ((c.tc : Thread nD τ).loc main_v2) = haar (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (by
        rw [result_eq, arg_eq]; exact haar_eq_flat _ _ _),
      ((h c).2 main_arg0 (Pipeline.mem_restRefs_of main_arg0 (by decide) (by decide))).trans (W_main_arg0 m (dats m) c)⟩)
    (run_main m ρ)

end Cert.Haar.Array

end
-- ==== Proof.Ref.lean ====
/- What the reference computes, at the ideal values: the generated run's result term is `Cert.Haar.haar` of the argument.
   The reference splits each of the last three axes into pairs (a reshape to eight axes), sums over the three pair axes,
   and multiplies by one over twice the root of two. -/
module

public import proofs.«01_k».proof.Proof.Spec
public import proofs.«01_k».proof.Proof.Gen.ReferenceIdeal.Run
public import Idealize.ShloMosaic.Lib.IdealHost
public import Idealize.ShloMosaic.Lib.Pointwise.Reduce

@[expose] public section

noncomputable section

namespace Cert.Haar.Ref

open Idealize.ShloMosaic Cert.ReferenceIdeal Cert.ReferenceIdeal.Gen

/-- The element of the eight-axis array that holds offsets `e f g` of the cell of `j`. -/
def split (j : SOut.Idx) (k : Fin 2 × Fin 2 × Fin 2) : S2x32x32x2x64x2x64x2.Idx
  | ⟨0, _⟩ => j 0
  | ⟨1, _⟩ => j 1
  | ⟨2, _⟩ => j 2
  | ⟨3, _⟩ => k.1
  | ⟨4, _⟩ => j 3
  | ⟨5, _⟩ => k.2.1
  | ⟨6, _⟩ => j 4
  | ⟨7, _⟩ => k.2.2

/-- The eight-axis element is at the row-major position of the cell's element in the argument. -/
theorem split_rowMajor (j : SOut.Idx) (k : Fin 2 × Fin 2 × Fin 2) :
    (SIn.rowMajor (cell j k.1 k.2.1 k.2.2)).val = (S2x32x32x2x64x2x64x2.rowMajor (split j k)).val := by
  rw [rowMajor_val8 (split j k) 33554432 1048576 32768 16384 256 128 2 rfl rfl rfl rfl rfl rfl rfl,
    rowMajor_val5 (cell j k.1 k.2.1 k.2.2) 33554432 1048576 16384 128 rfl rfl rfl rfl]
  have c0 : (cell j k.1 k.2.1 k.2.2 0).val = (j 0).val := rfl
  have c1 : (cell j k.1 k.2.1 k.2.2 1).val = (j 1).val := rfl
  have c2 : (cell j k.1 k.2.1 k.2.2 2).val = 2 * (j 2).val + k.1.val := rfl
  have c3 : (cell j k.1 k.2.1 k.2.2 3).val = 2 * (j 3).val + k.2.1.val := rfl
  have c4 : (cell j k.1 k.2.1 k.2.2 4).val = 2 * (j 4).val + k.2.2.val := rfl
  have d0 : (split j k 0).val = (j 0).val := rfl
  have d1 : (split j k 1).val = (j 1).val := rfl
  have d2 : (split j k 2).val = (j 2).val := rfl
  have d3 : (split j k 3).val = k.1.val := rfl
  have d4 : (split j k 4).val = (j 3).val := rfl
  have d5 : (split j k 5).val = k.2.1.val := rfl
  have d6 : (split j k 6).val = (j 4).val := rfl
  have d7 : (split j k 7).val = k.2.2.val := rfl
  omega

/-- The eight-axis indices that the three-axis sum collects at `j` are exactly `split j k`. -/
theorem split_fiber (h : S2x32x32x2x64x2x64x2.ReducesTo [3, 5, 7] SOut) (j : SOut.Idx) (i : S2x32x32x2x64x2x64x2.Idx) :
    h.drop i = j ↔ ∃ k, split j k = i := by
  constructor
  · intro e
    refine ⟨(i 3, i 5, i 7), ?_⟩
    funext a
    match a with
    | ⟨0, _⟩ => exact (congrFun e 0).symm
    | ⟨1, _⟩ => exact (congrFun e 1).symm
    | ⟨2, _⟩ => exact (congrFun e 2).symm
    | ⟨3, _⟩ => rfl
    | ⟨4, _⟩ => exact (congrFun e 3).symm
    | ⟨5, _⟩ => rfl
    | ⟨6, _⟩ => exact (congrFun e 4).symm
    | ⟨7, _⟩ => rfl
  · rintro ⟨k, rfl⟩
    funext b
    match b with
    | ⟨0, _⟩ => rfl
    | ⟨1, _⟩ => rfl
    | ⟨2, _⟩ => rfl
    | ⟨3, _⟩ => rfl
    | ⟨4, _⟩ => rfl

/-- The sum over the three pair axes at `j`, from the initial value `z`: `z` plus the sum over the offsets. -/
theorem sum_pairs (h : S2x32x32x2x64x2x64x2.ReducesTo [3, 5, 7] SOut) (y : S2x32x32x2x64x2x64x2.Idx → EReal) (z : EReal)
    (j : SOut.Idx) : Ideal.hostReduceAdd h y z j = z + ∑ e, ∑ f, ∑ g, y (split j (e, f, g)) := by
  have inj : Function.Injective (split j) := fun _ _ e =>
    Prod.ext (congrFun e 3) (Prod.ext (congrFun e 5) (congrFun e 7))
  show z + _ = _
  rw [Finset.sum_filter_eq_sum_of_fiber _ (split j) inj (split_fiber h j) y]
  simp only [Fintype.sum_prod_type]

/-- The word of the reference's constant two denotes the real two. -/
theorem ofBits_two : Ideal.ofBits .f32 0x40000000#32 = ((2 : ℝ) : EReal) := by
  simp [Ideal.ofBits, Ideal.ieee, -EReal.coe_mul]
  norm_num

/-- Twice the root of two is the root of eight. -/
theorem two_sqrt_two : (2 : ℝ) * Real.sqrt 2 = Real.sqrt 8 := by
  rw [show (8 : ℝ) = 2 ^ 2 * 2 by norm_num, Real.sqrt_mul (by norm_num), Real.sqrt_sq (by norm_num)]

/-- The reference's scale, one over twice the root of two, is `(√8)⁻¹`. -/
theorem scale_eq (i : S_.Idx) : (Host.divf (constant S_ .f32 0x3F800000#32) (mulf (constant S_ .f32 0x40000000#32)
    (Host.sqrt (constant S_ .f32 0x40000000#32))) : FVec Ideal S_ .f32) i = scale := by
  simp only [Host.divf, Host.sqrt, mulf, constant, Ideal.hostDivf_def, Ideal.hostUnary_sqrt_def, Ideal.mulf_def,
    Ideal.ofBits_def, ofBits_two, Ideal.ofBits_one_f32, Ideal.sqrt_coe, show ¬(2 : ℝ) < 0 from by norm_num, ↓reduceIte]
  rw [← EReal.coe_mul, two_sqrt_two, Ideal.div_coe (Real.sqrt_pos.mpr (by norm_num)).ne', one_div, one_mul]
  rfl

/-- The reference's result, as a function of its argument, is the low-pass output. -/
theorem result_eq (x : FVec Ideal S2x32x64x128x128 .f32) :
    mulf (Host.reduceAdd (shapeCast _ x shapeCasts_S2x32x64x128x128_S2x32x32x2x64x2x64x2)
        (constant S_ .f32 0x00000000#32) reducesTo_S2x32x32x2x64x2x64x2_S2x32x32x64x64_d3_5_7 h_S_)
      (broadcastInDim S2x32x32x64x64 ![] bcast_S_S2x32x32x64x64 (Host.divf (constant S_ .f32 0x3F800000#32)
        (mulf (constant S_ .f32 0x40000000#32) (Host.sqrt (constant S_ .f32 0x40000000#32))))) = haar x := by
  funext j
  rw [ValueIdx.mulf_apply, ValueIdx.broadcastInDim_scalar_apply, scale_eq, ValueIdx.hostReduceAdd_apply, sum_pairs, ValueIdx.constant_apply,
    Ideal.ofBits_zero_f32, zero_add]
  simp only [shapeCast_apply x shapeCasts_S2x32x64x128x128_S2x32x32x2x64x2x64x2 _ _ (split_rowMajor j _)]
  rfl

end Cert.Haar.Ref

end
-- ==== Proof.Claims.lean ====
/- The claims, one theorem each: the three programs end with their arguments unchanged, the named constant is the one
   change the idealized kernel makes, and the idealized kernel and reference compute one function. -/
module

public import proofs.«01_k».proof.Defs
public import proofs.«01_k».proof.Proof.Gen.Kernel.Frame
public import proofs.«01_k».proof.Proof.Array
public import proofs.«01_k».proof.Proof.Ref
public import Idealize.ShloMosaic.Lib.Quiescent

@[expose] public section

noncomputable section

namespace Cert.Haar.Claims

open Idealize.ShloMosaic Idealize.SL.Sem

/-- Every execution of the kernel ends, its argument unchanged and every counter at zero. -/
theorem frame_kernel : Cert.quiescent_Kernel := fun m ρ _ => Cert.Kernel.Gen.frame m ρ

/-- The same of the idealized kernel. -/
theorem frame_kernelIdeal : Cert.quiescent_KernelIdeal := fun m ρ _ => Cert.KernelIdeal.Gen.frame m ρ

/-- The same of the reference. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel's one change: its scale literal is named, and the name denotes the real `(√8)⁻¹`. -/
theorem preserves : Cert.preserves_Kernel_KernelIdeal :=
  IdealRules.named_const.statement Cert.KernelIdeal.κ "haar_ll" .f32 0x3EB504F3#32 (((Real.sqrt 8)⁻¹ : ℝ) : EReal) rfl

/-- From arguments that agree, the idealized kernel and the reference end with one result: the low-pass output. -/
theorem algebraic : Cert.algebraic_KernelIdeal_ReferenceIdeal := by
  intro m ρ m' ρ' _ hagree
  refine ⟨_, Cert.Haar.Array.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Haar.Ref.result_eq _

end Cert.Haar.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

/-- Every claim of the certificate holds. -/
theorem claim : Cert.Claim := ⟨Cert.Kernel.Gen.facts, Cert.KernelIdeal.Gen.facts, Cert.ReferenceIdeal.Gen.facts,
  Cert.Haar.Claims.frame_kernel, Cert.Haar.Claims.frame_kernelIdeal, Cert.Haar.Claims.frame_referenceIdeal,
  Cert.Haar.Claims.preserves, Cert.Haar.Claims.algebraic⟩

end Cert.Proof

end
